-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "exp2_scale" .f32 0x3DD53B95#32 (((Real.sqrt 192)⁻¹ * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1x65536 : Shape := ⟨3, ![4, 1, 65536]⟩
abbrev S4x1x128x64 : Shape := ⟨4, ![4, 1, 128, 64]⟩
abbrev S4x32768x512 : Shape := ⟨3, ![4, 32768, 512]⟩
abbrev S4x32768 : Shape := ⟨2, ![4, 32768]⟩
abbrev S4x32768x64 : Shape := ⟨3, ![4, 32768, 64]⟩
abbrev S4x128x512 : Shape := ⟨3, ![4, 128, 512]⟩
abbrev S4x128x64 : Shape := ⟨3, ![4, 128, 64]⟩
abbrev S4x64x128 : Shape := ⟨3, ![4, 64, 128]⟩
abbrev S4x64x32768 : Shape := ⟨3, ![4, 64, 32768]⟩
abbrev S1x128x512 : Shape := ⟨3, ![1, 128, 512]⟩
abbrev S1x64x128 : Shape := ⟨3, ![1, 64, 128]⟩
abbrev S1x8192x512 : Shape := ⟨3, ![1, 8192, 512]⟩
abbrev S4x8192 : Shape := ⟨2, ![4, 8192]⟩
abbrev S1x64x8192 : Shape := ⟨3, ![1, 64, 8192]⟩
abbrev S4x128x2048 : Shape := ⟨3, ![4, 128, 2048]⟩
abbrev S128x128 : Shape := ⟨2, ![128, 128]⟩
abbrev S128x512 : Shape := ⟨2, ![128, 512]⟩
abbrev S1x2048x512 : Shape := ⟨3, ![1, 2048, 512]⟩
abbrev S2048x512 : Shape := ⟨2, ![2048, 512]⟩
abbrev S128x2048 : Shape := ⟨2, ![128, 2048]⟩
abbrev S64x128 : Shape := ⟨2, ![64, 128]⟩
abbrev S1x64x2048 : Shape := ⟨3, ![1, 64, 2048]⟩
abbrev S64x2048 : Shape := ⟨2, ![64, 2048]⟩
abbrev S1x2048 : Shape := ⟨2, ![1, 2048]⟩
abbrev S1x128x2048 : Shape := ⟨3, ![1, 128, 2048]⟩
abbrev S128 : Shape := ⟨1, ![128]⟩
abbrev S128x1 : Shape := ⟨2, ![128, 1]⟩

abbrev nBuf : Space → Nat
  | .hbm => 11
  | .vmem => 16
  | .smem => 0
  | _ => 0

abbrev bufTy : (tb : Table) → Fin (tcTables nBuf tb) → BufTy
  | .hbm, ⟨0, _⟩ => ⟨S4x1x65536, .bf16⟩
  | .hbm, ⟨1, _⟩ => ⟨S4x1x128x64, .bf16⟩
  | .hbm, ⟨2, _⟩ => ⟨S4x32768x512, .fp8e4m3⟩
  | .hbm, ⟨3, _⟩ => ⟨S4x32768, .f32⟩
  | .hbm, ⟨4, _⟩ => ⟨S4x32768x64, .bf16⟩
  | .hbm, ⟨5, _⟩ => ⟨S4x128x512, .bf16⟩
  | .hbm, ⟨6, _⟩ => ⟨S4x128x64, .bf16⟩
  | .hbm, ⟨7, _⟩ => ⟨S4x64x128, .bf16⟩
  | .hbm, ⟨8, _⟩ => ⟨S4x64x32768, .bf16⟩
  | .hbm, ⟨9, _⟩ => ⟨S4x128x512, .bf16⟩
  | .hbm, ⟨10, _⟩ => ⟨S4x1x65536, .bf16⟩
  | .local _ .vmem, ⟨0, _⟩ => ⟨S1x128x512, .bf16⟩
  | .local _ .vmem, ⟨1, _⟩ => ⟨S1x128x512, .bf16⟩
  | .local _ .vmem, ⟨2, _⟩ => ⟨S1x64x128, .bf16⟩
  | .local _ .vmem, ⟨3, _⟩ => ⟨S1x64x128, .bf16⟩
  | .local _ .vmem, ⟨4, _⟩ => ⟨S1x8192x512, .fp8e4m3⟩
  | .local _ .vmem, ⟨5, _⟩ => ⟨S1x8192x512, .fp8e4m3⟩
  | .local _ .vmem, ⟨6, _⟩ => ⟨S4x8192, .f32⟩
  | .local _ .vmem, ⟨7, _⟩ => ⟨S4x8192, .f32⟩
  | .local _ .vmem, ⟨8, _⟩ => ⟨S1x64x8192, .bf16⟩
  | .local _ .vmem, ⟨9, _⟩ => ⟨S1x64x8192, .bf16⟩
  | .local _ .vmem, ⟨10, _⟩ => ⟨S1x128x512, .bf16⟩
  | .local _ .vmem, ⟨11, _⟩ => ⟨S1x128x512, .bf16⟩
  | .local _ .vmem, ⟨12, _⟩ => ⟨S4x128x2048, .f32⟩
  | .local _ .vmem, ⟨13, _⟩ => ⟨S128x128, .f32⟩
  | .local _ .vmem, ⟨14, _⟩ => ⟨S128x128, .f32⟩
  | .local _ .vmem, ⟨15, _⟩ => ⟨S128x512, .f32⟩
  | _, _ => ⟨S4x1x65536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def k0_off1 (i : grid0.Coords) : Fin 2 → Nat :=
  let arg0 : BitVec 32 := BitVec.ofNat 32 (i 0).val
  let v13 : Index := Scalar.indexCast arg0
  let c0_13 : Index := 0#32
  ![v13.toNat, 0]
def k0_off2 (i : grid0.Coords) : Fin 2 → Nat :=
  let arg0 : BitVec 32 := BitVec.ofNat 32 (i 0).val
  let v64 : Index := Scalar.indexCast arg0
  let c2048_31 : Index := 2048#32
  ![v64.toNat, 2048]
def k0_off3 (i : grid0.Coords) : Fin 2 → Nat :=
  let arg0 : BitVec 32 := BitVec.ofNat 32 (i 0).val
  let v186 : Index := Scalar.indexCast arg0
  let c4096_70 : Index := 4096#32
  ![v186.toNat, 4096]
def k0_off4 (i : grid0.Coords) : Fin 2 → Nat :=
  let arg0 : BitVec 32 := BitVec.ofNat 32 (i 0).val
  let v308 : Index := Scalar.indexCast arg0
  let c6144_109 : Index := 6144#32
  ![v308.toNat, 6144]
def k0_cond2 (i : grid0.Coords) : BitVec 1 :=
  let arg1 : BitVec 32 := BitVec.ofNat 32 (i 1).val
  let c3_i32 : BitVec 32 := 3#32
  let v491 : BitVec 1 := Scalar.cmpi .eq arg1 c3_i32
  let v492 : BitVec 32 := Scalar.extui v491
  let c0_i32_157 : BitVec 32 := 0#32
  let v493 : BitVec 1 := Scalar.cmpi .ne v492 c0_i32_157
  v493

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x64x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x64x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== KernelIdeal.lean ====
variable {F : FTy → Type} [FloatOps F] [Named F]
def κ : String → Option EReal := fun
  | "exp2_scale" => some (((Real.sqrt 192)⁻¹ * (Real.log 2)⁻¹ : ℝ) : EReal)
  | _ => none
-- ==== ReferenceIdeal.lean ====
abbrev S4x1x65536 : Shape := ⟨3, ![4, 1, 65536]⟩
abbrev S4x1x128x64 : Shape := ⟨4, ![4, 1, 128, 64]⟩
abbrev S4x32768x512 : Shape := ⟨3, ![4, 32768, 512]⟩
abbrev S4x32768 : Shape := ⟨2, ![4, 32768]⟩
abbrev S4x32768x64 : Shape := ⟨3, ![4, 32768, 64]⟩
abbrev S4x128x512 : Shape := ⟨3, ![4, 128, 512]⟩
abbrev S4x128x64 : Shape := ⟨3, ![4, 128, 64]⟩
abbrev S1x32768x512 : Shape := ⟨3, ![1, 32768, 512]⟩
abbrev S32768x512 : Shape := ⟨2, ![32768, 512]⟩
abbrev S1x32768 : Shape := ⟨2, ![1, 32768]⟩
abbrev S32768 : Shape := ⟨1, ![32768]⟩
abbrev S1x128x512 : Shape := ⟨3, ![1, 128, 512]⟩
abbrev S128x512 : Shape := ⟨2, ![128, 512]⟩
abbrev S128x32768 : Shape := ⟨2, ![128, 32768]⟩
abbrev S1x128x64 : Shape := ⟨3, ![1, 128, 64]⟩
abbrev S128x64 : Shape := ⟨2, ![128, 64]⟩
abbrev S1x32768x64 : Shape := ⟨3, ![1, 32768, 64]⟩
abbrev S32768x64 : Shape := ⟨2, ![32768, 64]⟩
abbrev S128 : Shape := ⟨1, ![128]⟩
abbrev S128x1 : Shape := ⟨2, ![128, 1]⟩

abbrev nBuf : Space → Nat
  | .hbm => 9
  | .vmem => 6
  | .smem => 0
  | _ => 0

abbrev bufTy : (tb : Table) → Fin (tcTables nBuf tb) → BufTy
  | .hbm, ⟨0, _⟩ => ⟨S4x1x65536, .bf16⟩
  | .hbm, ⟨1, _⟩ => ⟨S4x1x128x64, .bf16⟩
  | .hbm, ⟨2, _⟩ => ⟨S4x32768x512, .fp8e4m3⟩
  | .hbm, ⟨3, _⟩ => ⟨S4x32768, .f32⟩
  | .hbm, ⟨4, _⟩ => ⟨S4x32768x64, .bf16⟩
  | .hbm, ⟨5, _⟩ => ⟨S4x128x512, .bf16⟩
  | .hbm, ⟨6, _⟩ => ⟨S4x128x64, .bf16⟩
  | .hbm, ⟨7, _⟩ => ⟨S4x128x512, .bf16⟩
  | .hbm, ⟨8, _⟩ => ⟨S4x1x65536, .bf16⟩
  | .local _ .vmem, ⟨0, _⟩ => ⟨S4x128x512, .bf16⟩
  | .local _ .vmem, ⟨1, _⟩ => ⟨S4x128x64, .bf16⟩
  | .local _ .vmem, ⟨2, _⟩ => ⟨S4x32768x512, .fp8e4m3⟩
  | .local _ .vmem, ⟨3, _⟩ => ⟨S4x32768, .f32⟩
  | .local _ .vmem, ⟨4, _⟩ => ⟨S4x32768x64, .bf16⟩
  | .local _ .vmem, ⟨5, _⟩ => ⟨S4x128x512, .bf16⟩
  | _, _ => ⟨S4x1x65536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F] [Named F]

def κ : String → Option EReal := fun
  | "sm_scale" => some (((Real.sqrt 192)⁻¹ : ℝ) : EReal)
  | _ => none

abbrev grid0 : Pipeline.Grid := .none

abbrev stage0_0 : Fin 1 → Memref sig .tc .vmem S4x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x128x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x32768x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x32768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x32768x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Softmax.lean ====
/-
  The arithmetic of the online softmax over the extended reals, with no program in sight.

  A row of scores `s` is folded block by block. After some tokens the fold keeps a bound `m` of their scores (their
  maximum) and sums weighted by `weight c (s t - m)`, where `weight c x = 2 ^ (x · c)`. When a new block raises the
  bound from `m` to `m'`, the old sums are multiplied by `weight c (m - m')`. `rescale_sum` says that this turns every
  sum relative to `m` into the same sum relative to `m'`, whatever the scores are, infinite ones included: no finiteness
  is assumed anywhere.
-/
module

public import Idealize.ShloMosaic.PureOps.Ideal
public import Idealize.ShloMosaic.PureOps.Ideal.Laws

@[expose] public section

noncomputable section

namespace Cert.Softmax

open Idealize.ShloMosaic

/-- The weight of a score that lies `x` above the bound: `2 ^ (x · c)`. -/
def weight (c : ℝ) (x : EReal) : EReal := Ideal.exp2 (x * (c : EReal))

variable {c : ℝ}

theorem weight_bot (hc : 0 < c) : weight c ⊥ = 0 := by
  rw [weight, EReal.bot_mul_coe_of_pos hc, Ideal.exp2_bot]

theorem weight_top (hc : 0 < c) : weight c ⊤ = ⊤ := by
  rw [weight, EReal.top_mul_coe_of_pos hc, Ideal.exp2_top]

theorem weight_coe (r : ℝ) : weight c (r : EReal) = (((2 : ℝ) ^ (r * c) : ℝ) : EReal) := by
  rw [weight, ← EReal.coe_mul, Ideal.exp2_coe]; rfl

/-- A weight is never negative. -/
theorem weight_nonneg (hc : 0 < c) (x : EReal) : 0 ≤ weight c x := by
  induction x with
  | bot => rw [weight_bot hc]
  | top => rw [weight_top hc]; exact le_top
  | coe r => rw [weight_coe]; exact_mod_cast Real.rpow_nonneg (by norm_num) _

/-- The factor by which a rising bound rescales is finite. -/
theorem weight_sub_ne_top (hc : 0 < c) {a b : EReal} (hab : a ≤ b) : weight c (a - b) ≠ ⊤ := by
  induction a with
  | bot => rw [EReal.bot_sub, weight_bot hc]; exact EReal.zero_ne_top
  | top =>
    obtain rfl : b = ⊤ := top_le_iff.mp hab
    rw [EReal.sub_top, weight_bot hc]; exact EReal.zero_ne_top
  | coe r =>
    induction b with
    | bot => exact absurd hab (not_le.mpr (EReal.bot_lt_coe r))
    | top => rw [EReal.sub_top, weight_bot hc]; exact EReal.zero_ne_top
    | coe q => rw [← EReal.coe_sub, weight_coe]; exact EReal.coe_ne_top _

/-- Raising the bound from `a` to `b` turns a score's weight over `a` into its weight over `b`. -/
theorem weight_mul (hc : 0 < c) {s a b : EReal} (hsa : s ≤ a) (hab : a ≤ b) :
    weight c (a - b) * weight c (s - a) = weight c (s - b) := by
  induction s with
  | bot => rw [EReal.bot_sub, EReal.bot_sub, weight_bot hc, mul_zero]
  | top =>
    obtain rfl : a = ⊤ := top_le_iff.mp hsa
    obtain rfl : b = ⊤ := top_le_iff.mp hab
    rw [EReal.sub_top, weight_bot hc, mul_zero]
  | coe p =>
    induction a with
    | bot => exact absurd hsa (not_le.mpr (EReal.bot_lt_coe p))
    | top =>
      obtain rfl : b = ⊤ := top_le_iff.mp hab
      rw [EReal.sub_top, EReal.sub_top, weight_bot hc, mul_zero]
    | coe q =>
      induction b with
      | bot => exact absurd hab (not_le.mpr (EReal.bot_lt_coe q))
      | top => rw [EReal.sub_top, EReal.sub_top, weight_bot hc, zero_mul]
      | coe r =>
        rw [← EReal.coe_sub, ← EReal.coe_sub, ← EReal.coe_sub, weight_coe, weight_coe, weight_coe, ← EReal.coe_mul,
          ← Real.rpow_add (by norm_num)]
        congr 2; ring

/-- A finite factor that is not negative goes into a sum of extended reals. -/
theorem mul_sum {ι : Type} {k : EReal} (h0 : 0 ≤ k) (ht : k ≠ ⊤) (T : Finset ι) (f : ι → EReal) :
    k * ∑ t ∈ T, f t = ∑ t ∈ T, k * f t := by
  classical
  induction T using Finset.induction_on with
  | empty => simp
  | insert a T ha ih =>
    rw [Finset.sum_insert ha, Finset.sum_insert ha, EReal.left_distrib_of_nonneg_of_ne_top h0 ht, ih]

/-- RESCALING: a weighted sum over the bound `a`, times the factor for raising the bound to `b`, is the weighted sum over
    the bound `b`. -/
theorem rescale_sum (hc : 0 < c) {ι : Type} (T : Finset ι) (s v : ι → EReal) {a b : EReal} (hs : ∀ t ∈ T, s t ≤ a)
    (hab : a ≤ b) :
    (∑ t ∈ T, weight c (s t - a) * v t) * weight c (a - b) = ∑ t ∈ T, weight c (s t - b) * v t := by
  rw [mul_comm, mul_sum (weight_nonneg hc _) (weight_sub_ne_top hc hab)]
  refine Finset.sum_congr rfl fun t ht => ?_
  rw [← mul_assoc, weight_mul hc (hs t ht) hab]

/-- The same for a sum of the weights alone. -/
theorem rescale_weights (hc : 0 < c) {ι : Type} (T : Finset ι) (s : ι → EReal) {a b : EReal} (hs : ∀ t ∈ T, s t ≤ a)
    (hab : a ≤ b) :
    (∑ t ∈ T, weight c (s t - a)) * weight c (a - b) = ∑ t ∈ T, weight c (s t - b) := by
  simpa using rescale_sum hc T s (fun _ => 1) hs hab

/-! ## One block more: tokens numbered from 0, `n` of them folded, the next `k` added -/

/-- The maximum over the first `n + k` tokens. -/
theorem sup_range_add (s : ℕ → EReal) (n k : ℕ) :
    (Finset.range (n + k)).sup s = max ((Finset.range n).sup s) (Finset.univ.sup fun i : Fin k => s (n + i.val)) := by
  apply le_antisymm
  · refine Finset.sup_le fun t ht => ?_
    by_cases h : t < n
    · exact le_max_of_le_left (Finset.le_sup (f := s) (Finset.mem_range.mpr h))
    · have hk : t - n < k := by have := Finset.mem_range.mp ht; omega
      refine le_max_of_le_right ?_
      have := Finset.le_sup (f := fun i : Fin k => s (n + i.val)) (Finset.mem_univ ⟨t - n, hk⟩)
      simpa [Nat.add_sub_cancel' (not_lt.mp h)] using this
  · refine max_le (Finset.sup_le fun t ht => ?_) (Finset.sup_le fun i _ => ?_)
    · exact Finset.le_sup (f := s) (Finset.mem_range.mpr (by have := Finset.mem_range.mp ht; omega))
    · exact Finset.le_sup (f := s) (Finset.mem_range.mpr (by have := i.isLt; omega))

/-- The weighted sum over the first `n` tokens, rescaled to a higher bound, plus the next `k` terms. -/
theorem values_step (hc : 0 < c) (s v : ℕ → EReal) (n k : ℕ) {a b : EReal} (hs : ∀ t < n, s t ≤ a) (hab : a ≤ b) :
    (∑ t ∈ Finset.range n, weight c (s t - a) * v t) * weight c (a - b)
        + ∑ i : Fin k, weight c (s (n + i.val) - b) * v (n + i.val)
      = ∑ t ∈ Finset.range (n + k), weight c (s t - b) * v t := by
  rw [rescale_sum hc _ s v (fun t ht => hs t (Finset.mem_range.mp ht)) hab, Finset.sum_range_add,
    Finset.sum_range fun i => weight c (s (n + i) - b) * v (n + i)]

/-- The same for the sum of the weights alone. -/
theorem weights_step (hc : 0 < c) (s : ℕ → EReal) (n k : ℕ) {a b : EReal} (hs : ∀ t < n, s t ≤ a) (hab : a ≤ b) :
    (∑ t ∈ Finset.range n, weight c (s t - a)) * weight c (a - b) + ∑ i : Fin k, weight c (s (n + i.val) - b)
      = ∑ t ∈ Finset.range (n + k), weight c (s t - b) := by
  simpa using values_step hc s (fun _ => 1) n k hs hab

/-- A sum over tokens taken lane by lane: lane `l` of 128 holds the tokens `128 k + l`. -/
theorem sum_lanes (f : ℕ → EReal) (q : ℕ) :
    ∑ l : Fin 128, ∑ k ∈ Finset.range q, f (128 * k + l.val) = ∑ t ∈ Finset.range (128 * q), f t := by
  induction q with
  | zero => simp
  | succ q ih =>
    simp only [Finset.sum_range_succ, Finset.sum_add_distrib]
    rw [ih, show 128 * (q + 1) = 128 * q + 128 by ring, Finset.sum_range_add, Finset.sum_range fun i => f (128 * q + i)]

/-! ## The plain softmax in the same terms -/

/-- Multiplying by a positive real is monotone. -/
theorem mul_coe_mono {k : ℝ} (hk : 0 < k) : Monotone fun x : EReal => x * (k : EReal) :=
  fun _ _ h => mul_le_mul_of_nonneg_right h (by exact_mod_cast hk.le)

/-- The maximum of scaled scores is the scaled maximum. -/
theorem sup_mul {k : ℝ} (hk : 0 < k) {ι : Type} (T : Finset ι) (s : ι → EReal) :
    (T.sup fun t => s t * (k : EReal)) = T.sup s * (k : EReal) :=
  (Finset.comp_sup_eq_sup_comp_of_is_total (fun x : EReal => x * (k : EReal)) (mul_coe_mono hk)
    (EReal.bot_mul_coe_of_pos hk)).symm

/-- Scaling first and exponentiating to base `e`, or subtracting first and exponentiating to base 2 with the scale
    divided by `log 2`, is the same weight. -/
theorem exp_sub_eq_weight {k : ℝ} (hk : 0 < k) (s m : EReal) :
    Ideal.exp (s * (k : EReal) - m * (k : EReal)) = weight (k * (Real.log 2)⁻¹) (s - m) := by
  have hl : 0 < Real.log 2 := Real.log_pos (by norm_num)
  have hc : 0 < k * (Real.log 2)⁻¹ := mul_pos hk (inv_pos.mpr hl)
  induction m with
  | bot =>
    rw [EReal.bot_mul_coe_of_pos hk]
    induction s with
    | bot => rw [EReal.bot_mul_coe_of_pos hk, EReal.bot_sub, weight_bot hc, Ideal.exp_bot]
    | top => rw [EReal.top_mul_coe_of_pos hk, EReal.top_sub_bot, weight_top hc, Ideal.exp_top]
    | coe r => rw [← EReal.coe_mul, EReal.coe_sub_bot, EReal.coe_sub_bot, weight_top hc, Ideal.exp_top]
  | top => rw [EReal.top_mul_coe_of_pos hk, EReal.sub_top, EReal.sub_top, weight_bot hc, Ideal.exp_bot]
  | coe q =>
    induction s with
    | bot => rw [EReal.bot_mul_coe_of_pos hk, EReal.bot_sub, EReal.bot_sub, weight_bot hc, Ideal.exp_bot]
    | top =>
      rw [EReal.top_mul_coe_of_pos hk, ← EReal.coe_mul, EReal.top_sub_coe, EReal.top_sub_coe, weight_top hc, Ideal.exp_top]
    | coe p =>
      rw [← EReal.coe_mul, ← EReal.coe_mul, ← EReal.coe_sub, ← EReal.coe_sub, weight_coe, Ideal.exp_coe,
        Real.rpow_def_of_pos (by norm_num : (0 : ℝ) < 2)]
      congr 2
      field_simp

end Cert.Softmax

end
-- ==== Proof.Attention.lean ====
/-
  What both programs compute, written once over the argument arrays: softmax attention of 128 query heads over 32768
  cached tokens. A token's latent row is its fp8 codes times one scale; its score also has a rotary part.
-/
module

public import proofs.«01_k».proof.Proof.Softmax
public import Idealize.ShloMosaic.Lib.Pointwise

@[expose] public section

set_option maxRecDepth 16384

noncomputable section

namespace Cert.Attention

open Idealize.ShloMosaic Cert.Softmax

/-- The score of one token for one head, before the softmax scale: the query against the codes, times the token's
    scale, plus the rotary part. -/
def score (q : Fin 512 → EReal) (qr : Fin 64 → EReal) (code : Fin 512 → EReal) (sc : EReal) (rope : Fin 64 → EReal) : EReal :=
  (∑ k, q k * code k) * sc + ∑ k, qr k * rope k

/-- The softmax scale, and the same scale for exponentials to base 2. -/
def smScale : ℝ := (Real.sqrt 192)⁻¹
def exp2Scale : ℝ := (Real.sqrt 192)⁻¹ * (Real.log 2)⁻¹

theorem smScale_pos : 0 < smScale := inv_pos.mpr (Real.sqrt_pos.mpr (by norm_num))
theorem exp2Scale_pos : 0 < exp2Scale := mul_pos smScale_pos (inv_pos.mpr (Real.log_pos (by norm_num)))

/-- The sum of the values `v` weighted by their scores, over the sum of the weights, the weights relative to the largest
    score. -/
def attend {ι : Type} [Fintype ι] (s v : ι → EReal) : EReal :=
  Ideal.div (∑ t, weight exp2Scale (s t - Finset.univ.sup s) * v t) (∑ t, weight exp2Scale (s t - Finset.univ.sup s))

/-- Token `t`'s score for head `h` of batch entry `b`, read off the argument arrays: queries `x`, rotary queries `qr`, fp8
    codes, scales, rotary keys. -/
def scoreAt (x : FVec Ideal ⟨3, ![4, 1, 65536]⟩ .bf16) (qr : FVec Ideal ⟨4, ![4, 1, 128, 64]⟩ .bf16)
    (codes : FVec Ideal ⟨3, ![4, 32768, 512]⟩ .fp8e4m3) (scales : FVec Ideal ⟨2, ![4, 32768]⟩ .f32)
    (rope : FVec Ideal ⟨3, ![4, 32768, 64]⟩ .bf16) (b : Fin 4) (h : Fin 128) (t : Fin 32768) : EReal :=
  score (fun k => x (ix3 b 0 ⟨h.val * 512 + k.val, by omega⟩)) (fun k => qr (ix4 b 0 h k))
    (fun k => codes (ix3 b t k)) (scales (ix2 b t)) (fun k => rope (ix3 b t k))

/-- The whole result over the five argument arrays. A token's value is its scale times its code. -/
def attention (x : FVec Ideal ⟨3, ![4, 1, 65536]⟩ .bf16) (qr : FVec Ideal ⟨4, ![4, 1, 128, 64]⟩ .bf16)
    (codes : FVec Ideal ⟨3, ![4, 32768, 512]⟩ .fp8e4m3) (scales : FVec Ideal ⟨2, ![4, 32768]⟩ .f32)
    (rope : FVec Ideal ⟨3, ![4, 32768, 64]⟩ .bf16) (b : Fin 4) (h : Fin 128) (j : Fin 512) : EReal :=
  attend (scoreAt x qr codes scales rope b h) (fun t => scales (ix2 b t) * codes (ix3 b t j))

/-- `attend` over 32768 tokens, the tokens numbered by naturals. -/
theorem attend_range (s v : Fin 32768 → EReal) (s' v' : ℕ → EReal) (hs : ∀ t, s' t.val = s t) (hv : ∀ t, v' t.val = v t) :
    Ideal.div
      (∑ t ∈ Finset.range 32768, weight exp2Scale (s' t - (Finset.range 32768).sup s') * v' t)
      (∑ t ∈ Finset.range 32768, weight exp2Scale (s' t - (Finset.range 32768).sup s'))
      = attend s v := by
  have hsup : (Finset.range 32768).sup s' = Finset.univ.sup s := by
    have h := sup_range_add s' 0 32768
    rw [Finset.range_zero, Finset.sup_empty, max_eq_right bot_le, Nat.zero_add] at h
    simpa only [Nat.zero_add, hs] using h
  unfold attend
  rw [hsup, Finset.sum_range, Finset.sum_range]
  simp only [hs, hv]

/-- The largest of a family, as a fold of `max` from the lattice's bottom. -/
theorem fold_max_eq_sup {ι : Type} [Fintype ι] (s : ι → EReal) :
    Finset.univ.fold max ⊥ s = Finset.univ.sup s := rfl

/-- The word of minus infinity denotes the lattice's bottom. -/
theorem ofBits_neg_inf : Ideal.ofBits .f32 0xFF800000#32 = ⊥ := by
  simp [Ideal.ofBits, Ideal.ieee]

/-- The scores scaled first, exponentials to base `e`: the plain softmax is `attend`. -/
theorem softmax_eq_attend {ι : Type} [Fintype ι] (s sc code : ι → EReal) :
    Ideal.div
      (∑ t, Ideal.exp (s t * (smScale : EReal) - Finset.univ.sup fun t => s t * (smScale : EReal)) * sc t * code t)
      (∑ t, Ideal.exp (s t * (smScale : EReal) - Finset.univ.sup fun t => s t * (smScale : EReal)))
      = attend s (fun t => sc t * code t) := by
  unfold attend
  rw [sup_mul smScale_pos]
  simp only [exp_sub_eq_weight smScale_pos, mul_assoc]
  rfl

end Cert.Attention

end
-- ==== Proof.Payload.lean ====
/-
  What the kernel's body computes at one grid point, entry by entry over the extended reals.

  A grid point folds four sub-blocks of 2048 tokens. For each the body computes the scores and the largest score of every
  head (`top`), and then updates the running maximum, the running sums of weights (kept apart in 128 lanes) and the
  running weighted sums of values. Here each of these values is read at an index, in the terms of Proof/Attention.lean.
-/
module

public import proofs.«01_k».proof.Proof.Attention
public import proofs.«01_k».proof.Proof.Gen.KernelIdeal.Frame
public import Idealize.ShloMosaic.Lib.Pipeline.ValueKit

@[expose] public section

set_option maxRecDepth 16384

noncomputable section

namespace Cert.KernelIdeal.Value

open Cert.KernelIdeal Cert.KernelIdeal.Gen Idealize.ShloMosaic Idealize.ShloMosaic.TcCoe Idealize.SL.Sem
open Cert.Softmax Cert.Attention

section
variable (q : Vec Ideal S1x128x512 .bf16) (codes : Vec Ideal S1x2048x512 .fp8e4m3) (qr : Vec Ideal S1x64x128 .bf16)
  (rope : Vec Ideal S1x64x2048 .bf16) (sc : Vec Ideal S1x2048 .f32)

/-- The largest score of each head over a sub-block, as the body's first sub-block computes it. -/
def top : FVec Ideal S128x1 .f32 :=
  k0_pay23 (k0_pay6 q codes qr rope sc) (k0_pay8 q codes qr rope sc) (k0_pay9 q codes qr rope sc) (k0_pay10 q codes qr rope sc) (k0_pay11 q codes qr rope sc) (k0_pay12 q codes qr rope sc) (k0_pay13 q codes qr rope sc) (k0_pay14 q codes qr rope sc) (k0_pay15 q codes qr rope sc) (k0_pay16 q codes qr rope sc) (k0_pay17 q codes qr rope sc) (k0_pay18 q codes qr rope sc) (k0_pay19 q codes qr rope sc) (k0_pay20 q codes qr rope sc) (k0_pay21 q codes qr rope sc) (k0_pay22 q codes qr rope sc)

/-! The body names the values of each of its four sub-blocks anew. The theorems `top…`, `stored…`, `max…`, `sums…` and `values…` say that the
    values of sub-block 1, 2 or 3 are those of sub-block 0 at that sub-block's operands, so only sub-block 0's need reading. -/

/-- The largest scores of sub-blocks 0 to 3 are `top`. -/
theorem top0 : k0_pay23 (k0_pay6 q codes qr rope sc) (k0_pay8 q codes qr rope sc) (k0_pay9 q codes qr rope sc) (k0_pay10 q codes qr rope sc) (k0_pay11 q codes qr rope sc) (k0_pay12 q codes qr rope sc) (k0_pay13 q codes qr rope sc) (k0_pay14 q codes qr rope sc) (k0_pay15 q codes qr rope sc) (k0_pay16 q codes qr rope sc) (k0_pay17 q codes qr rope sc) (k0_pay18 q codes qr rope sc) (k0_pay19 q codes qr rope sc) (k0_pay20 q codes qr rope sc) (k0_pay21 q codes qr rope sc) (k0_pay22 q codes qr rope sc) = top q codes qr rope sc := rfl

theorem top1 : k0_pay30 (k0_pay24 q codes qr rope sc) (k0_pay26 q codes qr rope sc) (k0_pay27 q codes qr rope sc) (k0_pay28 q codes qr rope sc) (k0_pay29 q codes qr rope sc) = top q codes qr rope sc := rfl

theorem top2 : k0_pay55 (k0_pay40 q codes qr rope sc) (k0_pay41 q codes qr rope sc) (k0_pay42 q codes qr rope sc) (k0_pay43 q codes qr rope sc) (k0_pay44 q codes qr rope sc) (k0_pay45 q codes qr rope sc) (k0_pay46 q codes qr rope sc) (k0_pay47 q codes qr rope sc) (k0_pay48 q codes qr rope sc) (k0_pay49 q codes qr rope sc) (k0_pay50 q codes qr rope sc) (k0_pay51 q codes qr rope sc) (k0_pay52 q codes qr rope sc) (k0_pay53 q codes qr rope sc) (k0_pay54 q codes qr rope sc) = top q codes qr rope sc := rfl

theorem top3 : k0_pay79 (k0_pay77 (k0_pay74 q) codes qr rope sc) (k0_pay78 (k0_pay74 q) codes qr rope sc) = top q codes qr rope sc := rfl

/-- The scores stored for sub-blocks 1 to 3 are computed as those for sub-block 0. -/
theorem stored1 : k0_pay25 q codes qr rope sc = k0_pay7 q codes qr rope sc := rfl
theorem stored2 : k0_pay39 q codes qr rope sc = k0_pay7 q codes qr rope sc := rfl
theorem stored3 : k0_pay76 (k0_pay74 q) codes qr rope sc = k0_pay7 q codes qr rope sc := rfl
end

section
variable (r : FVec Ideal S128x1 .f32) (M L : Vec Ideal S128x128 .f32) (S : Vec Ideal S1x128x2048 .f32) (sc : Vec Ideal S1x2048 .f32)
  (codes : Vec Ideal S1x2048x512 .fp8e4m3) (A : Vec Ideal S128x512 .f32)

/-- The running maximum after sub-blocks 1 to 3 is computed as that after sub-block 0. -/
theorem max1 : k0_pay58 r M = k0_pay33 r M := rfl
theorem max2 : k0_pay82 r M = k0_pay33 r M := rfl
theorem max3 : k0_pay97 r M = k0_pay33 r M := rfl

/-- So are the running sums of weights. -/
theorem sums1 : k0_pay72 (k0_pay59 r M S) (k0_pay60 r M L) (k0_pay61 r M S) (k0_pay62 r M S) (k0_pay63 r M S) (k0_pay64 r M S) (k0_pay65 r M S) (k0_pay66 r M S) (k0_pay67 r M S) (k0_pay68 r M S) (k0_pay69 r M S) (k0_pay70 r M S) (k0_pay71 r M S) = k0_pay35 (k0_pay32 r M) (k0_pay34 r M S) L := rfl
theorem sums2 : k0_pay93 (k0_pay84 r M L) (k0_pay85 r M S) (k0_pay86 r M S) (k0_pay87 r M S) (k0_pay88 r M S) (k0_pay89 r M S) (k0_pay90 r M S) (k0_pay91 r M S) (k0_pay92 r M S) = k0_pay35 (k0_pay32 r M) (k0_pay34 r M S) L := rfl
theorem sums3 : k0_pay99 (k0_pay95 r M) (k0_pay96 r M) S L = k0_pay35 (k0_pay32 r M) (k0_pay34 r M S) L := rfl

/-- So are the running weighted sums of values. -/
theorem values1 : k0_pay73 (k0_pay57 r M) (k0_pay59 r M S) sc codes A = k0_pay37 (k0_pay36 (k0_pay32 r M) (k0_pay34 r M S) sc codes A) := rfl
theorem values2 : k0_pay94 (k0_pay81 r M) (k0_pay83 r M S) sc codes A = k0_pay37 (k0_pay36 (k0_pay32 r M) (k0_pay34 r M S) sc codes A) := rfl
theorem values3 : k0_pay1 (k0_pay96 r M) (k0_pay100 (k0_pay95 r M) S sc) codes A = k0_pay37 (k0_pay36 (k0_pay32 r M) (k0_pay34 r M S) sc codes A) := rfl
end

/-- The largest over the 128 lanes of the largest of a lane's 16 entries is the largest of all 2048. -/
theorem sup_tiles (f : Fin 2048 → EReal) :
    (Finset.univ.sup fun l : Fin 128 =>
      max (max (max (max (f ⟨l.val, by omega⟩) (f ⟨128 + l.val, by omega⟩)) (max (f ⟨256 + l.val, by omega⟩) (f ⟨384 + l.val, by omega⟩)))
          (max (max (f ⟨512 + l.val, by omega⟩) (f ⟨640 + l.val, by omega⟩)) (max (f ⟨768 + l.val, by omega⟩) (f ⟨896 + l.val, by omega⟩))))
        (max (max (max (f ⟨1024 + l.val, by omega⟩) (f ⟨1152 + l.val, by omega⟩)) (max (f ⟨1280 + l.val, by omega⟩) (f ⟨1408 + l.val, by omega⟩)))
          (max (max (f ⟨1536 + l.val, by omega⟩) (f ⟨1664 + l.val, by omega⟩)) (max (f ⟨1792 + l.val, by omega⟩) (f ⟨1920 + l.val, by omega⟩)))))
      = Finset.univ.sup f := by
  apply le_antisymm
  · refine Finset.sup_le fun l _ => ?_
    simp only [max_le_iff]
    refine ⟨⟨⟨⟨?_, ?_⟩, ?_, ?_⟩, ⟨?_, ?_⟩, ?_, ?_⟩, ⟨⟨?_, ?_⟩, ?_, ?_⟩, ⟨?_, ?_⟩, ?_, ?_⟩ <;> exact Finset.le_sup (f := f) (Finset.mem_univ _)
  · refine Finset.sup_le fun t _ => ?_
    refine le_trans ?_ (Finset.le_sup (Finset.mem_univ (⟨t.val % 128, Nat.mod_lt _ (by decide)⟩ : Fin 128)))
    simp only [le_max_iff]
    have hb : ∀ (k : ℕ) (hk : k < 2048), t.val = k → f t ≤ f ⟨k, hk⟩ := fun k hk e => by
      obtain rfl : t = ⟨k, hk⟩ := Fin.ext e
      exact le_rfl
    have ht := t.isLt
    rcases (by omega : t.val / 128 = 0 ∨ t.val / 128 = 1 ∨ t.val / 128 = 2 ∨ t.val / 128 = 3 ∨ t.val / 128 = 4 ∨ t.val / 128 = 5
        ∨ t.val / 128 = 6 ∨ t.val / 128 = 7 ∨ t.val / 128 = 8 ∨ t.val / 128 = 9 ∨ t.val / 128 = 10 ∨ t.val / 128 = 11
        ∨ t.val / 128 = 12 ∨ t.val / 128 = 13 ∨ t.val / 128 = 14 ∨ t.val / 128 = 15)
      with e | e | e | e | e | e | e | e | e | e | e | e | e | e | e | e
    · exact .inl <| .inl <| .inl <| .inl <| hb _ _ (by omega)
    · exact .inl <| .inl <| .inl <| .inr <| hb _ _ (by omega)
    · exact .inl <| .inl <| .inr <| .inl <| hb _ _ (by omega)
    · exact .inl <| .inl <| .inr <| .inr <| hb _ _ (by omega)
    · exact .inl <| .inr <| .inl <| .inl <| hb _ _ (by omega)
    · exact .inl <| .inr <| .inl <| .inr <| hb _ _ (by omega)
    · exact .inl <| .inr <| .inr <| .inl <| hb _ _ (by omega)
    · exact .inl <| .inr <| .inr <| .inr <| hb _ _ (by omega)
    · exact .inr <| .inl <| .inl <| .inl <| hb _ _ (by omega)
    · exact .inr <| .inl <| .inl <| .inr <| hb _ _ (by omega)
    · exact .inr <| .inl <| .inr <| .inl <| hb _ _ (by omega)
    · exact .inr <| .inl <| .inr <| .inr <| hb _ _ (by omega)
    · exact .inr <| .inr <| .inl <| .inl <| hb _ _ (by omega)
    · exact .inr <| .inr <| .inl <| .inr <| hb _ _ (by omega)
    · exact .inr <| .inr <| .inr <| .inl <| hb _ _ (by omega)
    · exact .inr <| .inr <| .inr <| .inr <| hb _ _ (by omega)

/-- The pairwise sums of a lane's 16 entries are the sum of them. -/
theorem sum_tiles (p : Fin 2048 → EReal) (l : Fin 128) :
    p ⟨l.val, by omega⟩ + p ⟨128 + l.val, by omega⟩ + (p ⟨256 + l.val, by omega⟩ + p ⟨384 + l.val, by omega⟩)
          + (p ⟨512 + l.val, by omega⟩ + p ⟨640 + l.val, by omega⟩ + (p ⟨768 + l.val, by omega⟩ + p ⟨896 + l.val, by omega⟩))
        + (p ⟨1024 + l.val, by omega⟩ + p ⟨1152 + l.val, by omega⟩ + (p ⟨1280 + l.val, by omega⟩ + p ⟨1408 + l.val, by omega⟩)
          + (p ⟨1536 + l.val, by omega⟩ + p ⟨1664 + l.val, by omega⟩ + (p ⟨1792 + l.val, by omega⟩ + p ⟨1920 + l.val, by omega⟩)))
      = ∑ i : Fin 16, p ⟨128 * i.val + l.val, by omega⟩ := by
  simp only [Fin.sum_univ_succ, Fin.sum_univ_zero, Fin.val_succ, Fin.val_zero, add_zero, zero_add, Nat.mul_zero, Nat.reduceAdd, Nat.reduceMul,
    add_assoc]

/-- The named constant `exp2_scale` denotes `exp2Scale`. -/
theorem named_scale :
    Named.named (F := Ideal) Cert.KernelIdeal.κ "exp2_scale" (φ := .f32) 0x3DD53B95#32 = (exp2Scale : EReal) :=
  IdealRules.named_const.ideal_named_scalar _ _ _ _ rfl

section
variable (q : Vec Ideal S1x128x512 .bf16) (codes : Vec Ideal S1x2048x512 .fp8e4m3) (qr : Vec Ideal S1x64x128 .bf16)
  (rope : Vec Ideal S1x64x2048 .bf16) (sc : Vec Ideal S1x2048 .f32)

/-- The score the body computes for head `h` and token `t` of a sub-block. -/
abbrev blockScore (h : Fin 128) (t : Fin 2048) : EReal :=
  score (fun k => q (ix3 0 h k)) (fun k => qr (ix3 0 k h)) (fun k => codes (ix3 0 t k)) (sc (ix2 0 t)) (fun k => rope (ix3 0 k t))

/-- The value of token `t` of the sub-block at latent position `j`: its scale times its code. -/
abbrev blockValue (j : Fin 512) (t : Fin 2048) : EReal := sc (ix2 0 t) * codes (ix3 0 t j)

/-- The matrix of scores, entry by entry. -/
theorem scores_at (h : Fin 128) (t : Fin 2048) :
    k0_pay6 q codes qr rope sc (ix2 h t) = blockScore q codes qr rope sc h t := by
  pointwise [k0_pay6, blockScore, score]

/-- The scores as they are stored between a sub-block's two halves. -/
theorem kept_scores_at (h : Fin 128) (t : Fin 2048) :
    k0_pay7 q codes qr rope sc (ix3 0 h t) = blockScore q codes qr rope sc h t := by
  pointwise [k0_pay7]
  rw [scores_at]

/-- `top` is the largest of the sub-block's scores. -/
theorem top_at (h : Fin 128) :
    top q codes qr rope sc (ix2 h 0) = Finset.univ.sup (blockScore q codes qr rope sc h) := by
  pointwise [top, k0_pay23, k0_pay8, k0_pay9, k0_pay10, k0_pay11, k0_pay12, k0_pay13, k0_pay14, k0_pay15, k0_pay16, k0_pay17, k0_pay18,
    k0_pay19, k0_pay20, k0_pay21, k0_pay22]
  simp only [scores_at, ofBits_neg_inf, fold_max_eq_sup]
  exact sup_tiles (blockScore q codes qr rope sc h)
end

section
variable (r : FVec Ideal S128x1 .f32) (M L α : Vec Ideal S128x128 .f32) (S : Vec Ideal S1x128x2048 .f32) (p : FVec Ideal S128x2048 .f32) (sc : Vec Ideal S1x2048 .f32)
  (codes : Vec Ideal S1x2048x512 .fp8e4m3) (A : Vec Ideal S128x512 .f32)

/-- The new running maximum: the larger of the old one and the sub-block's largest score, in every lane. -/
theorem max_at (h l : Fin 128) : k0_pay33 r M (ix2 h l) = max (M (ix2 h l)) (r (ix2 h 0)) := by
  pointwise [k0_pay33, k0_pay31]

/-- The factor by which the old sums are rescaled. -/
theorem factor_at (h l : Fin 128) :
    k0_pay32 r M (ix2 h l) = weight exp2Scale (M (ix2 h l) - max (M (ix2 h l)) (r (ix2 h 0))) := by
  pointwise [k0_pay32, k0_pay31]
  rw [named_scale]; rfl

/-- A token's weight, relative to the new running maximum. -/
theorem weights_at (h : Fin 128) (t : Fin 2048) :
    k0_pay34 r M S (ix2 h t) = weight exp2Scale (S (ix3 0 h t) - max (M (ix2 h 0)) (r (ix2 h 0))) := by
  pointwise [k0_pay34, k0_pay31]
  rw [named_scale]; rfl

/-- The new weighted sum of values: the old one rescaled, plus the sub-block's. -/
theorem values_at (h : Fin 128) (j : Fin 512) :
    k0_pay37 (k0_pay36 α p sc codes A) (ix2 h j)
      = A (ix2 h j) * α (ix2 h 0) + ∑ t : Fin 2048, p (ix2 h t) * blockValue codes sc j t := by
  pointwise [k0_pay37, k0_pay36]
  simp only [mul_assoc]

/-- What the last grid point of a batch entry stores: the weighted sum of values over the sum of weights, the lanes added up. -/
theorem quotient_at (h : Fin 128) (j : Fin 512) :
    k0_pay2 L A (ix3 0 h j) = Ideal.div (A (ix2 h j)) (∑ l : Fin 128, L (ix2 h l)) := by
  pointwise [k0_pay2]

/-- The new sum of weights in lane `l`: the old one rescaled, plus the weights of the sub-block's tokens `128 i + l`. -/
theorem sums_at (h l : Fin 128) :
    k0_pay35 α p L (ix2 h l) = L (ix2 h l) * α (ix2 h l) + ∑ i : Fin 16, p (ix2 h ⟨128 * i.val + l.val, by omega⟩) := by
  pointwise [k0_pay35]
  congr 1
  exact sum_tiles (fun t => p (ix2 h t)) l
end

/-- The carried state a batch entry starts from: maximum minus infinity, sums zero. -/
theorem start_max (h l : Fin 128) : k0_pay3 (F := Ideal) (ix2 h l) = (⊥ : EReal) := by
  pointwise [k0_pay3]
  exact ofBits_neg_inf

theorem start_sum (h l : Fin 128) : k0_pay4 (F := Ideal) (ix2 h l) = (0 : EReal) := by
  pointwise [k0_pay4]

theorem start_values (h : Fin 128) (j : Fin 512) : k0_pay5 (F := Ideal) (ix2 h j) = (0 : EReal) := by
  pointwise [k0_pay5]

end Cert.KernelIdeal.Value

end
-- ==== Proof.Fold.lean ====
/-
  The kernel's invariant. The grid walks, for each of 4 batch entries, 4 blocks of 8192 tokens, and each grid point folds its
  block in 4 sub-blocks of 2048. `Folded` says what the carried state holds after the first `n` tokens of a sequence;
  `folded_start` says that the initial state is the fold of no tokens, and `folded_sub` that one sub-block goes from the
  fold of `n` tokens to the fold of `n + 2048`.
-/
module

public import proofs.«01_k».proof.Proof.Payload
public import Idealize.ShloMosaic.Lib.Pipeline.ReadBack
public import Idealize.ShloMosaic.Lib.Claim

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open Cert.Softmax Cert.Attention

variable (m : (ℓ : Loc nD τ sig) → Buf (Elt Ideal) ℓ) (ρ : Dev nD → PrngReg)

/-! ## The blocks a grid point sees, read off the argument arrays -/

/-- Which block of its array each window shows at grid point `t`: batch entry `t / 4`, token block `t % 4`. -/
theorem idx : ∀ t : Fin cfg0.N, win0_0.index t = ![t.val / 4, 0, 0] ∧ win0_1.index t = ![t.val / 4, 0, 0]
    ∧ win0_2.index t = ![t.val / 4, t.val % 4, 0] ∧ win0_3.index t = ![0, t.val % 4]
    ∧ win0_4.index t = ![t.val / 4, 0, t.val % 4] ∧ win0_5.index t = ![t.val / 4, 0, 0] ∧ t.val < 16 :=
  (by decide +kernel : ∀ t : Fin grid0.N, _)

/-- Where the four sub-blocks of scales start: the row is the batch entry. -/
theorem offs : ∀ t : Fin cfg0.N, k0_off1 (grid0.coords t) = ![t.val / 4, 0] ∧ k0_off2 (grid0.coords t) = ![t.val / 4, 2048]
    ∧ k0_off3 (grid0.coords t) = ![t.val / 4, 4096] ∧ k0_off4 (grid0.coords t) = ![t.val / 4, 6144] :=
  (by decide +kernel : ∀ t : Fin grid0.N, _)

/-- The batch entry of grid point `t`, and the token in place `i` of its block. -/
abbrev batch (t : Fin cfg0.N) : Fin 4 := ⟨t.val / 4, by have := (idx t).2.2.2.2.2.2; omega⟩
abbrev token (t : Fin cfg0.N) (i : Fin 8192) : Fin 32768 := ⟨8192 * (t.val % 4) + i.val, by omega⟩

/-- The reshape and transpose the host applies to the queries, read at an index. -/
theorem heads_at (x : FVec Ideal S4x1x65536 .bf16) (b : Fin 4) (h : Fin 128) (k : Fin 512) :
    shapeCast S4x128x512 x shapeCasts_S4x1x65536_S4x128x512 (ix3 b h k) = x (ix3 b 0 ⟨h.val * 512 + k.val, by omega⟩) := by
  pointwise

theorem rotary_at (x : FVec Ideal S4x1x128x64 .bf16) (b : Fin 4) (h : Fin 128) (k : Fin 64) :
    shapeCast S4x128x64 x shapeCasts_S4x1x128x64_S4x128x64 (ix3 b h k) = x (ix4 b 0 h k) := by
  pointwise

theorem rotary_transposed_at (x : FVec Ideal S4x128x64 .bf16) (b : Fin 4) (h : Fin 128) (k : Fin 64) :
    transpose S4x64x128 [0, 2, 1] x transposes_S4x128x64_S4x64x128_0_2_1 (ix3 b k h) = x (ix3 b h k) := by
  pointwise

/-- What the host lines before the call leave in its reshaped and transposed operands. -/
theorem entry0 (c : Dev nD) : V m c main_v0 = shapeCast S4x128x512 (m ((c : Thread nD τ).loc main_arg0) : FVec Ideal S4x1x65536 .bf16) shapeCasts_S4x1x65536_S4x128x512 := by
  show StableHlo.after hostOps0 (fun b => m (c, b)) (Proc.devRef .tc main_v0) = _
  after_results; try rfl

theorem entry1 (c : Dev nD) : V m c main_v2 = transpose S4x64x128 [0, 2, 1] (shapeCast S4x128x64 (m ((c : Thread nD τ).loc main_arg1) : FVec Ideal S4x1x128x64 .bf16) shapeCasts_S4x1x128x64_S4x128x64) transposes_S4x128x64_S4x64x128_0_2_1 := by
  show StableHlo.after hostOps0 (fun b => m (c, b)) (Proc.devRef .tc main_v2) = _
  after_results; try rfl

theorem entry4 (c : Dev nD) : V m c main_v3 = transpose S4x64x32768 [0, 2, 1] (m ((c : Thread nD τ).loc main_arg4) : FVec Ideal S4x32768x64 .bf16) transposes_S4x32768x64_S4x64x32768_0_2_1 := by
  show StableHlo.after hostOps0 (fun b => m (c, b)) (Proc.devRef .tc main_v3) = _
  after_results; try rfl

/-- The window of the queries. -/
theorem blk0 (c : Dev nD) (t : Fin cfg0.N) (h : Fin 128) (k : Fin 512) :
    (iblk m c 0 t : Vec Ideal S1x128x512 .bf16) (ix3 0 h k)
      = (m ((c : Thread nD τ).loc main_arg0) : FVec Ideal S4x1x65536 .bf16) (ix3 (batch t) 0 ⟨h.val * 512 + k.val, by omega⟩) := by
  refine (congrArg (fun a : FVec Ideal S4x128x512 .bf16 => a ((win0_0.blk t).view.emb (ix3 0 h k))) (entry0 m c)).trans ?_
  have e : (win0_0.blk t).view.emb (ix3 0 h k) = ix3 (batch t) h k := by blk_ext [idx t]
  dsimp only
  rw [e]
  exact heads_at _ _ _ _

/-- The window of the rotary queries, transposed. -/
theorem blk1 (c : Dev nD) (t : Fin cfg0.N) (h : Fin 128) (k : Fin 64) :
    (iblk m c 1 t : Vec Ideal S1x64x128 .bf16) (ix3 0 k h)
      = (m ((c : Thread nD τ).loc main_arg1) : FVec Ideal S4x1x128x64 .bf16) (ix4 (batch t) 0 h k) := by
  refine (congrArg (fun a : FVec Ideal S4x64x128 .bf16 => a ((win0_1.blk t).view.emb (ix3 0 k h))) (entry1 m c)).trans ?_
  have e : (win0_1.blk t).view.emb (ix3 0 k h) = ix3 (batch t) k h := by blk_ext [idx t]
  dsimp only
  rw [e]
  exact (rotary_transposed_at _ _ _ _).trans (rotary_at _ _ _ _)

/-- The window of the codes. -/
theorem blk2 (c : Dev nD) (t : Fin cfg0.N) (i : Fin 8192) (k : Fin 512) :
    (iblk m c 2 t : Vec Ideal S1x8192x512 .fp8e4m3) (ix3 0 i k)
      = (m ((c : Thread nD τ).loc main_arg2) : FVec Ideal S4x32768x512 .fp8e4m3) (ix3 (batch t) (token t i) k) := by
  blk_ext! [iblk, V, idx t]

/-- The window of the scales: the scales of all batch entries. -/
theorem blk3 (c : Dev nD) (t : Fin cfg0.N) (b : Fin 4) (i : Fin 8192) :
    (iblk m c 3 t : Vec Ideal S4x8192 .f32) (ix2 b i)
      = (m ((c : Thread nD τ).loc main_arg3) : FVec Ideal S4x32768 .f32) (ix2 b (token t i)) := by
  blk_ext! [iblk, V, idx t]

/-- The window of the rotary keys, transposed. -/
theorem blk4 (c : Dev nD) (t : Fin cfg0.N) (i : Fin 8192) (k : Fin 64) :
    (iblk m c 4 t : Vec Ideal S1x64x8192 .bf16) (ix3 0 k i)
      = (m ((c : Thread nD τ).loc main_arg4) : FVec Ideal S4x32768x64 .bf16) (ix3 (batch t) (token t i) k) := by
  refine (congrArg (fun a : FVec Ideal S4x64x32768 .bf16 => a ((win0_4.blk t).view.emb (ix3 0 k i))) (entry4 m c)).trans ?_
  have e : (win0_4.blk t).view.emb (ix3 0 k i) = ix3 (batch t) k (token t i) := by blk_ext [idx t]
  dsimp only
  rw [e]
  pointwise

/-! ## The four sub-blocks of 2048 tokens -/

/-- The three vectors are the codes, rotary keys and scales of the 2048 tokens from place `o` of point `t`'s block on. -/
structure Loads (c : Dev nD) (t : Fin cfg0.N) (o : ℕ) (codes : Vec Ideal S1x2048x512 .fp8e4m3) (rope : Vec Ideal S1x64x2048 .bf16)
    (sc : Vec Ideal S1x2048 .f32) : Prop where
  codes : ∀ (i : Fin 2048) (k : Fin 512) (ho : o + i.val < 8192),
    codes (ix3 0 i k) = (iblk m c 2 t : Vec Ideal S1x8192x512 .fp8e4m3) (ix3 0 ⟨o + i.val, ho⟩ k)
  rope : ∀ (k : Fin 64) (i : Fin 2048) (ho : o + i.val < 8192),
    rope (ix3 0 k i) = (iblk m c 4 t : Vec Ideal S1x64x8192 .bf16) (ix3 0 k ⟨o + i.val, ho⟩)
  scale : ∀ (i : Fin 2048) (ho : o + i.val < 8192),
    sc (ix2 0 i) = (iblk m c 3 t : Vec Ideal S4x8192 .f32) (ix2 (batch t) ⟨o + i.val, ho⟩)

/-- The four loads the body makes of its windows are the four sub-blocks. -/
theorem loads0 (c : Dev nD) (t : Fin cfg0.N) : Loads m c t 0 (View.ld (iblk m c 2 t) (Rect.unit ![0, 0, 0] ![1, 2048, 512] inb_S1x8192x512_S1x2048x512_0_0_0))
    (View.ld (iblk m c 4 t) (Rect.unit ![0, 0, 0] ![1, 64, 2048] inb_S1x64x8192_S1x64x2048_0_0_0))
    (View.ld (iblk m c 3 t) (Rect.unit (k0_off1 (grid0.coords t)) ![1, 2048] (k0_off1_inb (grid0.coords t)))) where
  codes i k ho := by pointwise
  rope k i ho := by pointwise
  scale i ho := by
    refine (View.ld_apply _ _ _).trans (congrArg _ ?_)
    funext a
    fin_cases a <;> exact Fin.ext (by simp [offs t])

theorem loads1 (c : Dev nD) (t : Fin cfg0.N) : Loads m c t 2048 (View.ld (iblk m c 2 t) (Rect.unit ![0, 2048, 0] ![1, 2048, 512] inb_S1x8192x512_S1x2048x512_0_2048_0))
    (View.ld (iblk m c 4 t) (Rect.unit ![0, 0, 2048] ![1, 64, 2048] inb_S1x64x8192_S1x64x2048_0_0_2048))
    (View.ld (iblk m c 3 t) (Rect.unit (k0_off2 (grid0.coords t)) ![1, 2048] (k0_off2_inb (grid0.coords t)))) where
  codes i k ho := by pointwise
  rope k i ho := by pointwise
  scale i ho := by
    refine (View.ld_apply _ _ _).trans (congrArg _ ?_)
    funext a
    fin_cases a <;> exact Fin.ext (by simp [offs t])

theorem loads2 (c : Dev nD) (t : Fin cfg0.N) : Loads m c t 4096 (View.ld (iblk m c 2 t) (Rect.unit ![0, 4096, 0] ![1, 2048, 512] inb_S1x8192x512_S1x2048x512_0_4096_0))
    (View.ld (iblk m c 4 t) (Rect.unit ![0, 0, 4096] ![1, 64, 2048] inb_S1x64x8192_S1x64x2048_0_0_4096))
    (View.ld (iblk m c 3 t) (Rect.unit (k0_off3 (grid0.coords t)) ![1, 2048] (k0_off3_inb (grid0.coords t)))) where
  codes i k ho := by pointwise
  rope k i ho := by pointwise
  scale i ho := by
    refine (View.ld_apply _ _ _).trans (congrArg _ ?_)
    funext a
    fin_cases a <;> exact Fin.ext (by simp [offs t])

theorem loads3 (c : Dev nD) (t : Fin cfg0.N) : Loads m c t 6144 (View.ld (iblk m c 2 t) (Rect.unit ![0, 6144, 0] ![1, 2048, 512] inb_S1x8192x512_S1x2048x512_0_6144_0))
    (View.ld (iblk m c 4 t) (Rect.unit ![0, 0, 6144] ![1, 64, 2048] inb_S1x64x8192_S1x64x2048_0_0_6144))
    (View.ld (iblk m c 3 t) (Rect.unit (k0_off4 (grid0.coords t)) ![1, 2048] (k0_off4_inb (grid0.coords t)))) where
  codes i k ho := by pointwise
  rope k i ho := by pointwise
  scale i ho := by
    refine (View.ld_apply _ _ _).trans (congrArg _ ?_)
    funext a
    fin_cases a <;> exact Fin.ext (by simp [offs t])

/-- Token `n`'s score for head `h` of batch entry `b`, the tokens numbered by naturals. -/
def seqScore (c : Dev nD) (b : Fin 4) (h : Fin 128) (n : ℕ) : EReal :=
  scoreAt (m ((c : Thread nD τ).loc main_arg0)) (m ((c : Thread nD τ).loc main_arg1)) (m ((c : Thread nD τ).loc main_arg2))
    (m ((c : Thread nD τ).loc main_arg3)) (m ((c : Thread nD τ).loc main_arg4)) b h ⟨n % 32768, Nat.mod_lt _ (by decide)⟩

/-- Token `n`'s value at latent position `j`, the same way. -/
def seqValue (c : Dev nD) (b : Fin 4) (j : Fin 512) (n : ℕ) : EReal :=
  let scales : FVec Ideal S4x32768 .f32 := m ((c : Thread nD τ).loc main_arg3)
  let codes : FVec Ideal S4x32768x512 .fp8e4m3 := m ((c : Thread nD τ).loc main_arg2)
  scales (ix2 b ⟨n % 32768, Nat.mod_lt _ (by decide)⟩) * codes (ix3 b ⟨n % 32768, Nat.mod_lt _ (by decide)⟩ j)

/-- The tokens of a grid point's block, numbered by naturals, stay below 32768. -/
theorem token_mod (t : Fin cfg0.N) (o i : ℕ) (h : o + i < 8192) :
    (⟨(8192 * (t.val % 4) + o + i) % 32768, Nat.mod_lt _ (by decide)⟩ : Fin 32768) = token t ⟨o + i, h⟩ :=
  Fin.ext (by show (8192 * (t.val % 4) + o + i) % 32768 = 8192 * (t.val % 4) + (o + i); omega)

/-- The scores a sub-block computes are the sequence's, from its first token on. -/
theorem blockScore_eq {c : Dev nD} {t : Fin cfg0.N} {o : ℕ} {codes : Vec Ideal S1x2048x512 .fp8e4m3} {rope : Vec Ideal S1x64x2048 .bf16}
    {sc : Vec Ideal S1x2048 .f32} (D : Loads m c t o codes rope sc) (ho : o + 2048 ≤ 8192) (h : Fin 128) (i : Fin 2048) :
    blockScore (iblk m c 0 t) codes (iblk m c 1 t) rope sc h i
      = seqScore m c (batch t) h (8192 * (t.val % 4) + o + i.val) := by
  have hi : o + i.val < 8192 := by omega
  unfold seqScore scoreAt blockScore
  rw [token_mod t o i.val hi]
  simp only [fun k => D.codes i k hi, fun k => D.rope k i hi, D.scale i hi, blk0, blk1, blk2, blk3, blk4]

/-- So are its values. -/
theorem blockValue_eq {c : Dev nD} {t : Fin cfg0.N} {o : ℕ} {codes : Vec Ideal S1x2048x512 .fp8e4m3} {rope : Vec Ideal S1x64x2048 .bf16}
    {sc : Vec Ideal S1x2048 .f32} (D : Loads m c t o codes rope sc) (ho : o + 2048 ≤ 8192) (j : Fin 512) (i : Fin 2048) :
    blockValue codes sc j i = seqValue m c (batch t) j (8192 * (t.val % 4) + o + i.val) := by
  have hi : o + i.val < 8192 := by omega
  unfold seqValue blockValue
  rw [token_mod t o i.val hi, D.codes i j hi, D.scale i hi, blk2, blk3]

/-! ## Folding -/

/-- The carried state holds the fold of the first `n` tokens of a sequence, `s h t` token `t`'s score for head `h` and `v j t` its value at
    position `j`: the running maximum in every lane, in lane `l` the running sum of the weights of the tokens `128 k + l`, and the running
    weighted sum of values. -/
structure Folded (s : Fin 128 → ℕ → EReal) (v : Fin 512 → ℕ → EReal) (n : ℕ) (M L : Vec Ideal S128x128 .f32) (A : Vec Ideal S128x512 .f32) : Prop where
  max : ∀ h l, M (ix2 h l) = (Finset.range n).sup (s h)
  sum : ∀ h l, L (ix2 h l) = ∑ k ∈ Finset.range (n / 128), weight exp2Scale (s h (128 * k + l.val) - (Finset.range n).sup (s h))
  values : ∀ h j, A (ix2 h j) = ∑ t ∈ Finset.range n, weight exp2Scale (s h t - (Finset.range n).sup (s h)) * v j t

/-- What the body stores first, at the first step of a batch entry, is the fold of no tokens. -/
theorem folded_start (s : Fin 128 → ℕ → EReal) (v : Fin 512 → ℕ → EReal) :
    Folded s v 0 (k0_pay3 (F := Ideal)) (k0_pay4 (F := Ideal)) (k0_pay5 (F := Ideal)) where
  max h l := by rw [start_max]; rfl
  sum h l := by rw [start_sum]; rfl
  values h j := by rw [start_values]; rfl

/-- One sub-block: from the fold of `n` tokens to the fold of `n + 2048`. -/
theorem folded_step {s : Fin 128 → ℕ → EReal} {v : Fin 512 → ℕ → EReal} {n : ℕ} (hn : 128 ∣ n)
    {codes : Vec Ideal S1x2048x512 .fp8e4m3} {sc : Vec Ideal S1x2048 .f32} {q : Vec Ideal S1x128x512 .bf16}
    {qr : Vec Ideal S1x64x128 .bf16} {rope : Vec Ideal S1x64x2048 .bf16}
    (hs : ∀ h, blockScore q codes qr rope sc h = fun i => s h (n + i.val)) (hv : ∀ j, blockValue codes sc j = fun i => v j (n + i.val))
    {M L : Vec Ideal S128x128 .f32} {A : Vec Ideal S128x512 .f32} (H : Folded s v n M L A) :
    Folded s v (n + 2048) (k0_pay33 (top q codes qr rope sc) M)
      (k0_pay35 (k0_pay32 (top q codes qr rope sc) M) (k0_pay34 (top q codes qr rope sc) M (k0_pay7 q codes qr rope sc)) L)
      (k0_pay37 (k0_pay36 (k0_pay32 (top q codes qr rope sc) M) (k0_pay34 (top q codes qr rope sc) M (k0_pay7 q codes qr rope sc)) sc codes A)) := by
  obtain ⟨g, rfl⟩ := hn
  have hmax : ∀ h l, max (M (ix2 h l)) (top q codes qr rope sc (ix2 h 0)) = (Finset.range (128 * g + 2048)).sup (s h) := fun h l => by
    rw [top_at, H.max, sup_range_add, hs]
  have hw : ∀ h i, k0_pay34 (top q codes qr rope sc) M (k0_pay7 q codes qr rope sc) (ix2 h i)
      = weight exp2Scale (s h (128 * g + i.val) - (Finset.range (128 * g + 2048)).sup (s h)) :=
    fun h i => by rw [weights_at, hmax, kept_scores_at, hs]
  have hle : ∀ h, ∀ t < 128 * g, s h t ≤ (Finset.range (128 * g)).sup (s h) :=
    fun h t ht => Finset.le_sup (f := s h) (Finset.mem_range.mpr ht)
  have hmono : ∀ h, (Finset.range (128 * g)).sup (s h) ≤ (Finset.range (128 * g + 2048)).sup (s h) :=
    fun h => Finset.sup_mono (Finset.range_mono (by omega))
  refine ⟨fun h l => ?_, fun h l => ?_, fun h j => ?_⟩
  · rw [max_at, hmax]
  · rw [sums_at, H.sum, factor_at, hmax, H.max, show 128 * g / 128 = g by omega, show (128 * g + 2048) / 128 = g + 16 by omega]
    simp only [hw]
    have e : ∀ i : Fin 16, s h (128 * g + (128 * i.val + l.val)) = s h (128 * (g + i.val) + l.val) :=
      fun i => congrArg (s h) (by ring)
    simp only [e]
    exact weights_step exp2Scale_pos (fun k => s h (128 * k + l.val)) g 16 (fun k hk => hle h _ (by omega)) (hmono h)
  · rw [values_at, H.values, factor_at, hmax, H.max]
    simp only [hw, fun i => congrFun (hv j) i]
    exact values_step exp2Scale_pos _ _ _ _ (hle h) (hmono h)

/-- One sub-block of grid point `t`, read off the argument arrays. -/
theorem folded_sub {c : Dev nD} {t : Fin cfg0.N} {o : ℕ} (hd : 128 ∣ o) (ho : o + 2048 ≤ 8192) {codes : Vec Ideal S1x2048x512 .fp8e4m3}
    {rope : Vec Ideal S1x64x2048 .bf16} {sc : Vec Ideal S1x2048 .f32} (D : Loads m c t o codes rope sc)
    {M L : Vec Ideal S128x128 .f32} {A : Vec Ideal S128x512 .f32}
    (H : Folded (seqScore m c (batch t)) (seqValue m c (batch t)) (8192 * (t.val % 4) + o) M L A) :
    Folded (seqScore m c (batch t)) (seqValue m c (batch t)) (8192 * (t.val % 4) + (o + 2048))
      (k0_pay33 (top (iblk m c 0 t) codes (iblk m c 1 t) rope sc) M)
      (k0_pay35 (k0_pay32 (top (iblk m c 0 t) codes (iblk m c 1 t) rope sc) M)
        (k0_pay34 (top (iblk m c 0 t) codes (iblk m c 1 t) rope sc) M (k0_pay7 (iblk m c 0 t) codes (iblk m c 1 t) rope sc)) L)
      (k0_pay37 (k0_pay36 (k0_pay32 (top (iblk m c 0 t) codes (iblk m c 1 t) rope sc) M)
        (k0_pay34 (top (iblk m c 0 t) codes (iblk m c 1 t) rope sc) M (k0_pay7 (iblk m c 0 t) codes (iblk m c 1 t) rope sc)) sc codes A)) :=
  folded_step (Dvd.dvd.add (Dvd.dvd.mul_right (by decide) _) hd) (fun h => funext fun i => blockScore_eq m D ho h i)
    (fun j => funext fun i => blockValue_eq m D ho j i) H

end Cert.KernelIdeal.Value

end
-- ==== Proof.Kernel.lean ====
/-
  What the kernel's program computes. By induction over the grid, the carried state after every grid point is the fold of
  the tokens seen so far (`folded`); so the block stored at the last grid point of a batch entry is the attention over all
  32768 tokens (`out_attention`), the call's result array is the attention (`final`), and the program's result is that
  array with the heads side by side (`run_attention`).
-/
module

public import proofs.«01_k».proof.Proof.Fold

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open Cert.Softmax Cert.Attention

variable (m : (ℓ : Loc nD τ sig) → Buf (Elt Ideal) ℓ) (ρ : Dev nD → PrngReg)

/-- A load of one slot of the scores' buffer finds what was stored there, whatever was stored in the other slots since. -/
theorem slot0 (s0 s1 : FVec Ideal S1x128x2048 .f32) :
    (View.whole cc0_scratch0).readCov (Val := Elt Ideal) [⟨Rect.unit ![1, 0, 0] ![1, 128, 2048] inb_S4x128x2048_S1x128x2048_1_0_0, s1⟩, ⟨Rect.unit ![0, 0, 0] ![1, 128, 2048] inb_S4x128x2048_S1x128x2048_0_0_0, s0⟩] (Rect.unit ![0, 0, 0] ![1, 128, 2048] inb_S4x128x2048_S1x128x2048_0_0_0).toLoadRect = s0 :=
  (View.readCov_skip _ _ _ _ _ (by decide)).trans (View.readCov_cons_toLoadRect _ _ _ _)

theorem slot1 (s0 s1 s2 : FVec Ideal S1x128x2048 .f32) :
    (View.whole cc0_scratch0).readCov (Val := Elt Ideal) [⟨Rect.unit ![2, 0, 0] ![1, 128, 2048] inb_S4x128x2048_S1x128x2048_2_0_0, s2⟩, ⟨Rect.unit ![1, 0, 0] ![1, 128, 2048] inb_S4x128x2048_S1x128x2048_1_0_0, s1⟩, ⟨Rect.unit ![0, 0, 0] ![1, 128, 2048] inb_S4x128x2048_S1x128x2048_0_0_0, s0⟩] (Rect.unit ![1, 0, 0] ![1, 128, 2048] inb_S4x128x2048_S1x128x2048_1_0_0).toLoadRect = s1 :=
  (View.readCov_skip _ _ _ _ _ (by decide)).trans (View.readCov_cons_toLoadRect _ _ _ _)

theorem slot2 (s0 s1 s2 s3 : FVec Ideal S1x128x2048 .f32) :
    (View.whole cc0_scratch0).readCov (Val := Elt Ideal) [⟨Rect.unit ![3, 0, 0] ![1, 128, 2048] inb_S4x128x2048_S1x128x2048_3_0_0, s3⟩, ⟨Rect.unit ![2, 0, 0] ![1, 128, 2048] inb_S4x128x2048_S1x128x2048_2_0_0, s2⟩, ⟨Rect.unit ![1, 0, 0] ![1, 128, 2048] inb_S4x128x2048_S1x128x2048_1_0_0, s1⟩, ⟨Rect.unit ![0, 0, 0] ![1, 128, 2048] inb_S4x128x2048_S1x128x2048_0_0_0, s0⟩] (Rect.unit ![2, 0, 0] ![1, 128, 2048] inb_S4x128x2048_S1x128x2048_2_0_0).toLoadRect = s2 :=
  (View.readCov_skip _ _ _ _ _ (by decide)).trans (View.readCov_cons_toLoadRect _ _ _ _)

/-- The carried state after grid point `n`: the tokens of its batch entry up to the end of its block are folded. -/
theorem folded (c : Dev nD) : ∀ (n : ℕ) (hn : n < cfg0.N),
    Folded (seqScore m c (batch ⟨n, hn⟩)) (seqValue m c (batch ⟨n, hn⟩)) (8192 * (n % 4) + 8192)
      (outsAt0 m c n hn).2.1 (outsAt0 m c n hn).2.2.1 (outsAt0 m c n hn).2.2.2 := by
  intro n
  induction n using Nat.strong_induction_on with
  | _ n ih =>
  intro hn
  by_cases h0 : n % 4 = 0
  · have h1 : ¬ n % 4 = 3 := by omega
    have P : Folded (seqScore m c (batch ⟨n, hn⟩)) (seqValue m c (batch ⟨n, hn⟩)) (8192 * ((⟨n, hn⟩ : Fin cfg0.N).val % 4) + 0)
        (k0_pay3 (F := Ideal)) (k0_pay4 (F := Ideal)) (k0_pay5 (F := Ideal)) := by
      rw [show 8192 * ((⟨n, hn⟩ : Fin cfg0.N).val % 4) + 0 = 0 by show 8192 * (n % 4) + 0 = 0; omega]
      exact folded_start _ _
    have S := folded_sub m (by decide) (by decide) (loads3 m c ⟨n, hn⟩) <| folded_sub m (by decide) (by decide) (loads2 m c ⟨n, hn⟩) <|
      folded_sub m (by decide) (by decide) (loads1 m c ⟨n, hn⟩) <| folded_sub m (by decide) (by decide) (loads0 m c ⟨n, hn⟩) P
    convert S using 1
    all_goals
      rw [outsAt0_A m c ⟨n, hn⟩ h0 h1]
      dsimp only
      frame_out
      simp only [top0, top1, top2, top3, stored1, stored2, stored3, max1, max2, max3, sums1, sums2, sums3, values1, values2, values3,
        View.readCov_cons_toLoadRect, read_unread_whole]
      try rw [slot0, slot1, slot2]
      clear S P
      congr 2
  · have P := ih (n - 1) (by omega) (by omega)
    have hb : batch ⟨n - 1, by omega⟩ = batch ⟨n, hn⟩ := Fin.ext (by show (n - 1) / 4 = n / 4; omega)
    rw [hb, show 8192 * ((n - 1) % 4) + 8192 = 8192 * ((⟨n, hn⟩ : Fin cfg0.N).val % 4) + 0 by
      show 8192 * ((n - 1) % 4) + 8192 = 8192 * (n % 4) + 0; omega] at P
    have S := folded_sub m (by decide) (by decide) (loads3 m c ⟨n, hn⟩) <| folded_sub m (by decide) (by decide) (loads2 m c ⟨n, hn⟩) <|
      folded_sub m (by decide) (by decide) (loads1 m c ⟨n, hn⟩) <| folded_sub m (by decide) (by decide) (loads0 m c ⟨n, hn⟩) P
    by_cases h1 : n % 4 = 3
    · convert S using 1
      all_goals
        rw [outsAt0_C m c ⟨n, hn⟩ h0 h1]
        dsimp only
        frame_out
        simp only [top0, top1, top2, top3, stored1, stored2, stored3, max1, max2, max3, sums1, sums2, sums3, values1, values2, values3,
          View.readCov_cons_toLoadRect, read_unread_whole]
        try rw [slot0, slot1, slot2]
        clear S P
        congr 2
    · convert S using 1
      all_goals
        rw [outsAt0_B m c ⟨n, hn⟩ h0 h1]
        dsimp only
        frame_out
        simp only [top0, top1, top2, top3, stored1, stored2, stored3, max1, max2, max3, sums1, sums2, sums3, values1, values2, values3,
          View.readCov_cons_toLoadRect, read_unread_whole]
        try rw [slot0, slot1, slot2]
        clear S P
        congr 2

/-- The block the last grid point of a batch entry leaves in the result's window: each head's weighted sum of values over its sum of
    weights, the lanes added up. -/
theorem out_last (c : Dev nD) (t : Fin cfg0.N) (h1 : t.val % 4 = 3) (h : Fin 128) (j : Fin 512) :
    ((outsAt0 m c t.val t.isLt).1 : Vec Ideal S1x128x512 .bf16) (ix3 0 h j)
      = Ideal.div ((outsAt0 m c t.val t.isLt).2.2.2 (ix2 h j)) (∑ l : Fin 128, (outsAt0 m c t.val t.isLt).2.2.1 (ix2 h l)) := by
  rw [outsAt0_C m c t (by omega) h1]
  dsimp only
  frame_out
  rw [quotient_at]

/-- The last grid point of a batch entry has folded all its tokens, so its block is the attention over them. -/
theorem out_attention (c : Dev nD) (t : Fin cfg0.N) (h1 : t.val % 4 = 3) (h : Fin 128) (j : Fin 512) :
    ((outsAt0 m c t.val t.isLt).1 : Vec Ideal S1x128x512 .bf16) (ix3 0 h j)
      = attention (m ((c : Thread nD τ).loc main_arg0)) (m ((c : Thread nD τ).loc main_arg1)) (m ((c : Thread nD τ).loc main_arg2))
        (m ((c : Thread nD τ).loc main_arg3)) (m ((c : Thread nD τ).loc main_arg4)) (batch t) h j := by
  have F := folded m c t.val t.isLt
  rw [show 8192 * (t.val % 4) + 8192 = 32768 by omega] at F
  rw [out_last m c t h1, F.values]
  simp only [F.sum]
  rw [show 32768 / 128 = 256 from rfl,
    sum_lanes (fun t' => weight exp2Scale (seqScore m c (batch t) h t' - (Finset.range 32768).sup (seqScore m c (batch t) h))) 256]
  exact attend_range _ _ _ _ (fun t => by simp [seqScore, Nat.mod_eq_of_lt t.isLt]) (fun t => by simp [seqValue, Nat.mod_eq_of_lt t.isLt])

/-- The attention of the kernel's arguments, one row of 512 values per batch entry and head. -/
abbrev result (c : Dev nD) : FVec Ideal S4x128x512 .bf16 := fun i =>
  attention (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1) (i 2)

/-- The call's result array after the whole grid is the attention. -/
theorem final (c : Dev nD) : (dats m 0 c).arrAt 5 cfg0.N = result m c := by
  refine (dats m 0 c).arrAt_eq_of_covers 5 _ (by decide +kernel) fun t hf y => ?_
  have h1 : t.val % 4 = 3 := (flush0_5 t).mp hf
  idx_vars y
  blk_simp
  rw [after0_5]
  obtain rfl : y0 = 0 := Subsingleton.elim _ _
  refine (out_attention m c t h1 y1 y2).trans ?_
  have e0 : (win0_5.blk t).view.emb (ix3 0 y1 y2) 0 = batch t := Fin.ext (by blk_simp [idx t]; rfl)
  have e1 : (win0_5.blk t).view.emb (ix3 0 y1 y2) 1 = y1 := Fin.ext (by blk_simp [idx t])
  have e2 : (win0_5.blk t).view.emb (ix3 0 y1 y2) 2 = y2 := Fin.ext (by blk_simp [idx t])
  exact (congr (congrArg₂ _ e0 e1) e2).symm

/-- What the reshape after the call leaves in the program's result: the heads side by side. -/
theorem tail_result (c : Dev nD) : Pipeline.afterTail₀ cfgs (dats m) 0 (V0 m) [hostOps1] c main_v5
    = shapeCast S4x1x65536 ((dats m 0 c).arrAt 5 cfg0.N : FVec Ideal S4x128x512 .bf16) shapeCasts_S4x128x512_S4x1x65536 := by
  unfold Pipeline.afterTail₀
  show StableHlo.after hostOps1 _ (Proc.devRef .tc main_v5) = _
  after_results
  exact congrArg (fun a : FVec Ideal S4x128x512 .bf16 => shapeCast S4x1x65536 a shapeCasts_S4x128x512_S4x1x65536)
    (Pipeline.withArrays_arr (cfgs 0).spec (by decide) c (V0 m c) (fun w => (dats m 0 c).arrAt w (cfgs 0).N) 5)

/-- The run, read: the result is the attention of the arguments with the heads side by side, and the arguments are unchanged. -/
theorem run_attention : θ_run defs (onTc (τ := τ) (main (F := Ideal))) ⟨m, fun _ => 0, ρ⟩ fun r => ∀ c : Dev nD,
      r.2.mem ((c : Thread nD τ).loc main_v5) = shapeCast S4x1x65536 (result m c) shapeCasts_S4x128x512_S4x1x65536
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h.1 c).2 main_v5 (Pipeline.mem_restRefs_of main_v5 (by decide) (by decide))).trans
      ((tail_result m c).trans (by rw [final m c])), h.2 c⟩) (θ_run_and (run_main m ρ) (unchanged m ρ))

end Cert.KernelIdeal.Value

end
-- ==== Proof.Reference.lean ====
/-
  What the reference's program computes: one call over the whole arrays takes the plain softmax of each batch entry, which is
  the attention of Proof/Attention.lean (`final`); the program's result is that array with the heads side by side
  (`run_attention`).
-/
module

public import proofs.«01_k».proof.Proof.Attention
public import proofs.«01_k».proof.Proof.Gen.ReferenceIdeal.Frame
public import Idealize.ShloMosaic.Lib.Pipeline.ValueKit
public import Idealize.ShloMosaic.Lib.Claim

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)
open Cert.Softmax Cert.Attention

/-- The named constant `sm_scale` denotes `smScale`. -/
theorem named_scale :
    Named.named (F := Ideal) Cert.ReferenceIdeal.κ "sm_scale" (φ := .f32) 0x3D93CD3A#32 = (smScale : EReal) :=
  IdealRules.named_const.ideal_named_scalar _ _ _ _ rfl

/-- What the body stores for one batch entry: the plain softmax, which is `attend`. -/
theorem pay1_at (v0 : Vec Ideal S1x32768x512 .fp8e4m3) (v3 : Vec Ideal S1x32768 .f32) (v6 : Vec Ideal S1x128x512 .bf16) (v9 : Vec Ideal S1x128x64 .bf16) (v11 : Vec Ideal S1x32768x64 .bf16) (h : Fin 128) (j : Fin 512) :
    k0_pay1 v0 v3 v6 v9 v11 (ix3 0 h j) = attend (fun t : Fin 32768 => score (fun k => v6 (ix3 0 h k)) (fun k => v9 (ix3 0 h k))
      (fun k => v0 (ix3 0 t k)) (v3 (ix2 0 t)) (fun k => v11 (ix3 0 t k)))
    (fun t => v3 (ix2 0 t) * v0 (ix3 0 t j)) := by
  rw [← softmax_eq_attend _ (fun t => v3 (ix2 0 t)) (fun t => v0 (ix3 0 t j))]
  pointwise [k0_pay1, score]
  simp only [named_scale, ofBits_neg_inf, fold_max_eq_sup]

/-- The grid has one point, at which every window shows its whole array. -/
theorem idx : ∀ t : Fin cfg0.N, win0_0.index t = ![0, 0, 0] ∧ win0_1.index t = ![0, 0, 0] ∧ win0_2.index t = ![0, 0, 0]
    ∧ win0_3.index t = ![0, 0] ∧ win0_4.index t = ![0, 0, 0] ∧ win0_5.index t = ![0, 0, 0] :=
  (by decide +kernel : ∀ t : Fin grid0.N, _)

variable (m : (ℓ : Loc nD τ sig) → Buf (Elt Ideal) ℓ) (ρ : Dev nD → PrngReg)

/-- The attention of the reference's arguments, one row of 512 values per batch entry and head. -/
abbrev result (c : Dev nD) : FVec Ideal S4x128x512 .bf16 := fun i =>
  attention (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1) (i 2)

/-- The reshapes the host applies to the queries, read at an index. -/
theorem heads_at (x : FVec Ideal S4x1x65536 .bf16) (b : Fin 4) (h : Fin 128) (k : Fin 512) :
    shapeCast S4x128x512 x shapeCasts_S4x1x65536_S4x128x512 (ix3 b h k) = x (ix3 b 0 ⟨h.val * 512 + k.val, by omega⟩) := by
  pointwise

theorem rotary_at (x : FVec Ideal S4x1x128x64 .bf16) (b : Fin 4) (h : Fin 128) (k : Fin 64) :
    shapeCast S4x128x64 x shapeCasts_S4x1x128x64_S4x128x64 (ix3 b h k) = x (ix4 b 0 h k) := by
  pointwise

/-- What the host lines before the call leave in its reshaped operands. -/
theorem entry0 (c : Dev nD) : V m c main_v0 = shapeCast S4x128x512 (m ((c : Thread nD τ).loc main_arg0) : FVec Ideal S4x1x65536 .bf16) shapeCasts_S4x1x65536_S4x128x512 := by
  show StableHlo.after hostOps0 (fun b => m (c, b)) (Proc.devRef .tc main_v0) = _
  after_results; try rfl

theorem entry1 (c : Dev nD) : V m c main_v1 = shapeCast S4x128x64 (m ((c : Thread nD τ).loc main_arg1) : FVec Ideal S4x1x128x64 .bf16) shapeCasts_S4x1x128x64_S4x128x64 := by
  show StableHlo.after hostOps0 (fun b => m (c, b)) (Proc.devRef .tc main_v1) = _
  after_results; try rfl

/-- The windows' contents, read off the argument arrays. -/
theorem blk0 (c : Dev nD) (t : Fin cfg0.N) (b : Fin 4) (h : Fin 128) (k : Fin 512) :
    (iblk m c 0 t : Vec Ideal S4x128x512 .bf16) (ix3 b h k)
      = (m ((c : Thread nD τ).loc main_arg0) : FVec Ideal S4x1x65536 .bf16) (ix3 b 0 ⟨h.val * 512 + k.val, by omega⟩) := by
  refine (congrArg (fun a : FVec Ideal S4x128x512 .bf16 => a ((win0_0.blk t).view.emb (ix3 b h k))) (entry0 m c)).trans ?_
  have e : (win0_0.blk t).view.emb (ix3 b h k) = ix3 b h k := by blk_ext [idx t]
  dsimp only
  rw [e]
  exact heads_at _ _ _ _

theorem blk1 (c : Dev nD) (t : Fin cfg0.N) (b : Fin 4) (h : Fin 128) (k : Fin 64) :
    (iblk m c 1 t : Vec Ideal S4x128x64 .bf16) (ix3 b h k)
      = (m ((c : Thread nD τ).loc main_arg1) : FVec Ideal S4x1x128x64 .bf16) (ix4 b 0 h k) := by
  refine (congrArg (fun a : FVec Ideal S4x128x64 .bf16 => a ((win0_1.blk t).view.emb (ix3 b h k))) (entry1 m c)).trans ?_
  have e : (win0_1.blk t).view.emb (ix3 b h k) = ix3 b h k := by blk_ext [idx t]
  dsimp only
  rw [e]
  exact rotary_at _ _ _ _

theorem blk2 (c : Dev nD) (t : Fin cfg0.N) (b : Fin 4) (h : Fin 32768) (k : Fin 512) :
    (iblk m c 2 t : Vec Ideal S4x32768x512 .fp8e4m3) (ix3 b h k)
      = (m ((c : Thread nD τ).loc main_arg2) : FVec Ideal S4x32768x512 .fp8e4m3) (ix3 b h k) := by
  blk_ext! [iblk, V, idx t]

theorem blk3 (c : Dev nD) (t : Fin cfg0.N) (b : Fin 4) (h : Fin 32768) :
    (iblk m c 3 t : Vec Ideal S4x32768 .f32) (ix2 b h)
      = (m ((c : Thread nD τ).loc main_arg3) : FVec Ideal S4x32768 .f32) (ix2 b h) := by
  blk_ext! [iblk, V, idx t]

theorem blk4 (c : Dev nD) (t : Fin cfg0.N) (b : Fin 4) (h : Fin 32768) (k : Fin 64) :
    (iblk m c 4 t : Vec Ideal S4x32768x64 .bf16) (ix3 b h k)
      = (m ((c : Thread nD τ).loc main_arg4) : FVec Ideal S4x32768x64 .bf16) (ix3 b h k) := by
  blk_ext! [iblk, V, idx t]

/-- The body writes the same computation out once per batch entry. -/
theorem pay2_eq : k0_pay2 (F := Ideal) = k0_pay1 := rfl
theorem pay3_eq : k0_pay3 (F := Ideal) = k0_pay1 := rfl
theorem pay4_eq : k0_pay4 (F := Ideal) = k0_pay1 := rfl

/-- One batch entry's stored block is its part of the attention. -/
theorem piece (c : Dev nD) (v0 : Vec Ideal S1x32768x512 .fp8e4m3) (v3 : Vec Ideal S1x32768 .f32)
    (v6 : Vec Ideal S1x128x512 .bf16) (v9 : Vec Ideal S1x128x64 .bf16) (v11 : Vec Ideal S1x32768x64 .bf16) (b : Fin 4)
    (e0 : ∀ t k, v0 (ix3 0 t k) = (iblk m c 2 t0_0 : Vec Ideal S4x32768x512 .fp8e4m3) (ix3 b t k))
    (e3 : ∀ t, v3 (ix2 0 t) = (iblk m c 3 t0_0 : Vec Ideal S4x32768 .f32) (ix2 b t))
    (e6 : ∀ h k, v6 (ix3 0 h k) = (iblk m c 0 t0_0 : Vec Ideal S4x128x512 .bf16) (ix3 b h k))
    (e9 : ∀ h k, v9 (ix3 0 h k) = (iblk m c 1 t0_0 : Vec Ideal S4x128x64 .bf16) (ix3 b h k))
    (e11 : ∀ t k, v11 (ix3 0 t k) = (iblk m c 4 t0_0 : Vec Ideal S4x32768x64 .bf16) (ix3 b t k))
    (x : S1x128x512.Idx) (j : S4x128x512.Idx) (h0 : (j 0).val = b.val) (h1 : (j 1).val = (x 1).val) (h2 : (j 2).val = (x 2).val) :
    k0_pay1 v0 v3 v6 v9 v11 x = result m c j := by
  idx_vars x
  obtain rfl : x0 = 0 := Subsingleton.elim _ _
  have hj : result m c j = result m c (ix3 b x1 x2) := by
    congr 1
    refine (eq_ix3 j).trans ?_
    congr 1 <;> exact Fin.ext (by assumption)
  rw [hj, pay1_at]
  simp only [e0, e3, e6, e9, e11, blk0, blk1, blk2, blk3, blk4]
  rfl

/-- The call's result array is the attention. -/
theorem final (c : Dev nD) : (dats m 0 c).arrAt 5 cfg0.N = result m c := by
  refine (dats m 0 c).arrAt_eq_of_after_last 5 t0_0 (by decide +kernel) _ fun j => ?_
  blk_simp
  rw [after0_5]
  frame_out
  rw [pay2_eq, pay3_eq, pay4_eq]
  canon_tiles x h
  · exact piece m c _ _ _ _ _ 3 (by intros; pointwise [r0_15]) (by intros; pointwise [r0_15]) (by intros; pointwise [r0_15])
      (by intros; pointwise [r0_15]) (by intros; pointwise [r0_15]) x j (by omega) h1 h2
  · exact piece m c _ _ _ _ _ 2 (by intros; pointwise [r0_10]) (by intros; pointwise [r0_10]) (by intros; pointwise [r0_10])
      (by intros; pointwise [r0_10]) (by intros; pointwise [r0_10]) x j (by omega) h1 h2
  · exact piece m c _ _ _ _ _ 1 (by intros; pointwise [r0_5]) (by intros; pointwise [r0_5]) (by intros; pointwise [r0_5])
      (by intros; pointwise [r0_5]) (by intros; pointwise [r0_5]) x j (by omega) h1 h2
  · exact piece m c _ _ _ _ _ 0 (by intros; pointwise [r0_0]) (by intros; pointwise [r0_0]) (by intros; pointwise [r0_0])
      (by intros; pointwise [r0_0]) (by intros; pointwise [r0_0]) x j (by omega) h1 h2

/-- What the reshape after the call leaves in the program's result: the heads side by side. -/
theorem tail_result (c : Dev nD) : Pipeline.afterTail₀ cfgs (dats m) 0 (V0 m) [hostOps1] c main_v3
    = shapeCast S4x1x65536 ((dats m 0 c).arrAt 5 cfg0.N : FVec Ideal S4x128x512 .bf16) shapeCasts_S4x128x512_S4x1x65536 := by
  unfold Pipeline.afterTail₀
  show StableHlo.after hostOps1 _ (Proc.devRef .tc main_v3) = _
  after_results
  exact congrArg (fun a : FVec Ideal S4x128x512 .bf16 => shapeCast S4x1x65536 a shapeCasts_S4x128x512_S4x1x65536)
    (Pipeline.withArrays_arr (cfgs 0).spec (by decide) c (V0 m c) (fun w => (dats m 0 c).arrAt w (cfgs 0).N) 5)

/-- The run, read: the result is the attention of the arguments with the heads side by side, and the arguments are unchanged. -/
theorem run_attention : θ_run defs (onTc (τ := τ) (main (F := Ideal))) ⟨m, fun _ => 0, ρ⟩ fun r => ∀ c : Dev nD,
      r.2.mem ((c : Thread nD τ).loc main_v3) = shapeCast S4x1x65536 (result m c) shapeCasts_S4x128x512_S4x1x65536
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h.1 c).2 main_v3 (Pipeline.mem_restRefs_of main_v3 (by decide) (by decide))).trans
      ((tail_result m c).trans (by rw [final m c])), h.2 c⟩) (θ_run_and (run_main m ρ) (unchanged m ρ))

end Cert.ReferenceIdeal.Value

end
-- ==== Proof.lean ====
module

public import proofs.«01_k».proof.Proof.Gen.KernelIdeal.Frame
public import proofs.«01_k».proof.Proof.Gen.ReferenceIdeal.Frame
public import proofs.«01_k».proof.Proof.Kernel
public import proofs.«01_k».proof.Proof.Reference
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import Idealize.ShloMosaic.Adequacy
public import Idealize.ShloMosaic.Init
public import Idealize.ShloMosaic.Lib.Claim

@[expose] public section

noncomputable section

namespace Cert.Proof

open Idealize.ShloMosaic Idealize.SL.Sem

/-- From memories that agree on the arguments, kernel and reference both run and end with the same result. -/
theorem algebraic [Cert.KernelIdeal.Facts] [Cert.ReferenceIdeal.Facts] : Cert.algebraic_KernelIdeal_ReferenceIdeal := by
  intro m g m' g' _ hagree
  refine ⟨_, Cert.KernelIdeal.Value.run_attention m g, ?_⟩
  refine (θ_run _ _ _).mono (fun r h c => ⟨(h c).1.trans ?_, (h c).2⟩) (Cert.ReferenceIdeal.Value.run_attention m' g')
  obtain ⟨h0, h1, h2, h3, h4⟩ := hagree c
  unfold Cert.ReferenceIdeal.Value.result
  rw [h0, h1, h2, h3, h4]

/-- All five claims: the three frames, the named constant's value, and the equality of the results. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ,
    IdealRules.named_const.statement Cert.KernelIdeal.κ "exp2_scale" .f32 0x3DD53B95#32
      (((Real.sqrt 192)⁻¹ * (Real.log 2)⁻¹ : ℝ) : EReal) rfl,
    algebraic⟩

end Cert.Proof

end
